-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x128x3 : Shape := ⟨4, ![8, 512, 128, 3]⟩
abbrev S3x64 : Shape := ⟨2, ![3, 64]⟩
abbrev S64 : Shape := ⟨1, ![64]⟩
abbrev S64x60 : Shape := ⟨2, ![64, 60]⟩
abbrev S60 : Shape := ⟨1, ![60]⟩
abbrev S8x512x3x128 : Shape := ⟨4, ![8, 512, 3, 128]⟩
abbrev S4096x3x128 : Shape := ⟨3, ![4096, 3, 128]⟩
abbrev S3x4096x128 : Shape := ⟨3, ![3, 4096, 128]⟩
abbrev S3x524288 : Shape := ⟨2, ![3, 524288]⟩
abbrev S64x3 : Shape := ⟨2, ![64, 3]⟩
abbrev S64x1 : Shape := ⟨2, ![64, 1]⟩
abbrev S1x60 : Shape := ⟨2, ![1, 60]⟩
abbrev S4096x60 : Shape := ⟨2, ![4096, 60]⟩
abbrev S3x32768 : Shape := ⟨2, ![3, 32768]⟩
abbrev S256x60 : Shape := ⟨2, ![256, 60]⟩
abbrev S64x32768 : Shape := ⟨2, ![64, 32768]⟩
abbrev S32768x60 : Shape := ⟨2, ![32768, 60]⟩
abbrev S256x128x60 : Shape := ⟨3, ![256, 128, 60]⟩
abbrev S256x64x60 : Shape := ⟨3, ![256, 64, 60]⟩
abbrev S256x32x60 : Shape := ⟨3, ![256, 32, 60]⟩
abbrev S256x16x60 : Shape := ⟨3, ![256, 16, 60]⟩
abbrev S256x8x60 : Shape := ⟨3, ![256, 8, 60]⟩
abbrev S8x512x60 : Shape := ⟨3, ![8, 512, 60]⟩

abbrev nBuf : Space → Nat
  | .hbm => 17
  | .vmem => 8
  | .smem => 0
  | _ => 0

abbrev bufTy : (tb : Table) → Fin (tcTables nBuf tb) → BufTy
  | .hbm, ⟨0, _⟩ => ⟨S8x512x128x3, .f32⟩
  | .hbm, ⟨1, _⟩ => ⟨S3x64, .f32⟩
  | .hbm, ⟨2, _⟩ => ⟨S64, .f32⟩
  | .hbm, ⟨3, _⟩ => ⟨S64x60, .f32⟩
  | .hbm, ⟨4, _⟩ => ⟨S60, .f32⟩
  | .hbm, ⟨5, _⟩ => ⟨S8x512x3x128, .f32⟩
  | .hbm, ⟨6, _⟩ => ⟨S4096x3x128, .f32⟩
  | .hbm, ⟨7, _⟩ => ⟨S3x4096x128, .f32⟩
  | .hbm, ⟨8, _⟩ => ⟨S3x524288, .f32⟩
  | .hbm, ⟨9, _⟩ => ⟨S3x524288, .bf16⟩
  | .hbm, ⟨10, _⟩ => ⟨S64x3, .f32⟩
  | .hbm, ⟨11, _⟩ => ⟨S64x3, .bf16⟩
  | .hbm, ⟨12, _⟩ => ⟨S64x1, .f32⟩
  | .hbm, ⟨13, _⟩ => ⟨S64x60, .bf16⟩
  | .hbm, ⟨14, _⟩ => ⟨S1x60, .f32⟩
  | .hbm, ⟨15, _⟩ => ⟨S4096x60, .f32⟩
  | .hbm, ⟨16, _⟩ => ⟨S8x512x60, .f32⟩
  | .local _ .vmem, ⟨0, _⟩ => ⟨S3x32768, .bf16⟩
  | .local _ .vmem, ⟨1, _⟩ => ⟨S3x32768, .bf16⟩
  | .local _ .vmem, ⟨2, _⟩ => ⟨S64x3, .bf16⟩
  | .local _ .vmem, ⟨3, _⟩ => ⟨S64x1, .f32⟩
  | .local _ .vmem, ⟨4, _⟩ => ⟨S64x60, .bf16⟩
  | .local _ .vmem, ⟨5, _⟩ => ⟨S1x60, .f32⟩
  | .local _ .vmem, ⟨6, _⟩ => ⟨S256x60, .f32⟩
  | .local _ .vmem, ⟨7, _⟩ => ⟨S256x60, .f32⟩
  | _, _ => ⟨S8x512x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x32768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x60 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x60 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x60 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x512x128x3 : Shape := ⟨4, ![8, 512, 128, 3]⟩
abbrev S3x64 : Shape := ⟨2, ![3, 64]⟩
abbrev S64 : Shape := ⟨1, ![64]⟩
abbrev S64x60 : Shape := ⟨2, ![64, 60]⟩
abbrev S60 : Shape := ⟨1, ![60]⟩
abbrev S524288x3 : Shape := ⟨2, ![524288, 3]⟩
abbrev S524288x64 : Shape := ⟨2, ![524288, 64]⟩
abbrev S1x64 : Shape := ⟨2, ![1, 64]⟩
abbrev S_ : Shape := ⟨0, ![]⟩
abbrev S524288x60 : Shape := ⟨2, ![524288, 60]⟩
abbrev S1x60 : Shape := ⟨2, ![1, 60]⟩
abbrev S4096x128x60 : Shape := ⟨3, ![4096, 128, 60]⟩
abbrev S4096x60 : Shape := ⟨2, ![4096, 60]⟩
abbrev S8x512x60 : Shape := ⟨3, ![8, 512, 60]⟩

abbrev nBuf : Space → Nat
  | .hbm => 21
  | .vmem => 0
  | .smem => 0
  | _ => 0

abbrev bufTy : (tb : Table) → Fin (tcTables nBuf tb) → BufTy
  | .hbm, ⟨0, _⟩ => ⟨S8x512x128x3, .f32⟩
  | .hbm, ⟨1, _⟩ => ⟨S3x64, .f32⟩
  | .hbm, ⟨2, _⟩ => ⟨S64, .f32⟩
  | .hbm, ⟨3, _⟩ => ⟨S64x60, .f32⟩
  | .hbm, ⟨4, _⟩ => ⟨S60, .f32⟩
  | .hbm, ⟨5, _⟩ => ⟨S524288x3, .f32⟩
  | .hbm, ⟨6, _⟩ => ⟨S524288x64, .f32⟩
  | .hbm, ⟨7, _⟩ => ⟨S1x64, .f32⟩
  | .hbm, ⟨8, _⟩ => ⟨S524288x64, .f32⟩
  | .hbm, ⟨9, _⟩ => ⟨S524288x64, .f32⟩
  | .hbm, ⟨10, _⟩ => ⟨S_, .f32⟩
  | .hbm, ⟨11, _⟩ => ⟨S524288x64, .f32⟩
  | .hbm, ⟨12, _⟩ => ⟨S524288x64, .f32⟩
  | .hbm, ⟨13, _⟩ => ⟨S524288x60, .f32⟩
  | .hbm, ⟨14, _⟩ => ⟨S1x60, .f32⟩
  | .hbm, ⟨15, _⟩ => ⟨S524288x60, .f32⟩
  | .hbm, ⟨16, _⟩ => ⟨S524288x60, .f32⟩
  | .hbm, ⟨17, _⟩ => ⟨S4096x128x60, .f32⟩
  | .hbm, ⟨18, _⟩ => ⟨S_, .f32⟩
  | .hbm, ⟨19, _⟩ => ⟨S4096x60, .f32⟩
  | .hbm, ⟨20, _⟩ => ⟨S8x512x60, .f32⟩
  | _, _ => ⟨S8x512x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Proof.Pooling.lean ====
/- What both programs compute, as plain functions on extended reals, and the two facts about maxima that
   the kernel's way of pooling rests on: a maximum may be taken by halving, and a bias added to every
   entry may be added once to the maximum. -/
module

public import Idealize.ShloMosaic.Lib.Pointwise

@[expose] public section

noncomputable section

namespace Cert.Pooling

open Idealize.ShloMosaic

/-- The hidden unit `h` of point `n` of patch `(b, s)`: the rectified affine image of the point's three coordinates. -/
def hiddenUnit (x : (⟨4, ![8, 512, 128, 3]⟩ : Shape).Idx → EReal) (w1 : (⟨2, ![3, 64]⟩ : Shape).Idx → EReal)
    (b1 : (⟨1, ![64]⟩ : Shape).Idx → EReal) (b : Fin 8) (s : Fin 512) (n : Fin 128) (h : Fin 64) : EReal :=
  max ((∑ d : Fin 3, x (ix4 b s n d) * w1 (ix2 d h)) + b1 (ix1 h)) 0

/-- Output unit `o` of point `n` of patch `(b, s)`, without its bias. -/
def score (x : (⟨4, ![8, 512, 128, 3]⟩ : Shape).Idx → EReal) (w1 : (⟨2, ![3, 64]⟩ : Shape).Idx → EReal)
    (b1 : (⟨1, ![64]⟩ : Shape).Idx → EReal) (w2 : (⟨2, ![64, 60]⟩ : Shape).Idx → EReal)
    (b : Fin 8) (s : Fin 512) (n : Fin 128) (o : Fin 60) : EReal :=
  ∑ h : Fin 64, hiddenUnit x w1 b1 b s n h * w2 (ix2 h o)

/-- Feature `o` of patch `(b, s)`: the largest biased output over the patch's 128 points. -/
def pooled (x : (⟨4, ![8, 512, 128, 3]⟩ : Shape).Idx → EReal) (w1 : (⟨2, ![3, 64]⟩ : Shape).Idx → EReal)
    (b1 : (⟨1, ![64]⟩ : Shape).Idx → EReal) (w2 : (⟨2, ![64, 60]⟩ : Shape).Idx → EReal)
    (b2 : (⟨1, ![60]⟩ : Shape).Idx → EReal) (b : Fin 8) (s : Fin 512) (o : Fin 60) : EReal :=
  (Finset.univ : Finset (Fin 128)).sup fun n => score x w1 b1 w2 b s n o + b2 (ix1 o)

/-- A fold by `max` from −∞ is the supremum. -/
theorem fold_max_bot {ι : Type*} (S : Finset ι) (f : ι → EReal) : S.fold max ⊥ f = S.sup f := by
  classical
  induction S using Finset.induction_on with
  | empty => simp
  | insert a S ha ih => rw [Finset.fold_insert ha, ih, Finset.sup_insert]

/-- A bias added to every entry is added once to the maximum: −∞ plus anything is −∞, and adding is monotone. -/
theorem sup_add_const {ι : Type*} (S : Finset ι) (f : ι → EReal) (c : EReal) :
    (S.sup fun i => f i + c) = S.sup f + c := by
  classical
  induction S using Finset.induction_on with
  | empty => simp
  | insert a S ha ih =>
    rw [Finset.sup_insert, Finset.sup_insert, ih]
    exact max_add_add_right _ _ _

/-- One halving step: the entries below `k` taken each with its partner `k` places on have the same maximum as
    all entries below `2 k`. -/
theorem sup_halves (k : ℕ) (g : ℕ → EReal) :
    ((Finset.range k).sup fun i => max (g i) (g (k + i))) = (Finset.range (k + k)).sup g := by
  apply le_antisymm
  · refine Finset.sup_le fun i hi => ?_
    have hi' := Finset.mem_range.mp hi
    exact max_le (Finset.le_sup (f := g) (Finset.mem_range.mpr (by omega)))
      (Finset.le_sup (f := g) (Finset.mem_range.mpr (by omega)))
  · refine Finset.sup_le fun i hi => ?_
    have hi' := Finset.mem_range.mp hi
    by_cases h : i < k
    · exact (le_max_left _ _).trans
        (Finset.le_sup (f := fun i => max (g i) (g (k + i))) (Finset.mem_range.mpr h))
    · have e : k + (i - k) = i := by omega
      refine le_trans (le_of_eq (congrArg g e.symm)) ((le_max_right (g (i - k)) _).trans ?_)
      exact Finset.le_sup (f := fun i => max (g i) (g (k + i))) (Finset.mem_range.mpr (by omega))

/-- A supremum over the numbers below `n` as one over `Fin n`. -/
theorem sup_fin (n : ℕ) (g : ℕ → EReal) : ((Finset.univ : Finset (Fin n)).sup fun i => g i.val) = (Finset.range n).sup g := by
  apply le_antisymm
  · exact Finset.sup_le fun i _ => Finset.le_sup (f := g) (Finset.mem_range.mpr i.isLt)
  · refine Finset.sup_le fun i hi => ?_
    exact Finset.le_sup (f := fun i : Fin n => g i.val) (Finset.mem_univ ⟨i, Finset.mem_range.mp hi⟩)

/-- The word of −∞ at bf16 denotes −∞. -/
theorem neg_inf_bf16 : Ideal.ofBits .bf16 0xFF80#16 = ⊥ := by
  simp [Ideal.ofBits, Ideal.ieee]

/-- The word of −∞ at f32 denotes −∞. -/
theorem neg_inf_f32 : Ideal.ofBits .f32 0xFF800000#32 = ⊥ := by
  simp [Ideal.ofBits, Ideal.ieee]

end Cert.Pooling

end
-- ==== Proof.Block.lean ====
/- What one grid step computes: the block it stores, read at an index. -/
module

public import proofs.«01_k».proof.Proof.Gen.KernelIdeal.Skeleton
public import proofs.«01_k».proof.Proof.Pooling

@[expose] public section

set_option maxRecDepth 16384

noncomputable section

namespace Cert.KernelIdeal.Block

open Idealize.ShloMosaic Cert.KernelIdeal Cert.KernelIdeal.Gen Cert.Pooling

/-- Output unit `o` of the point in column `q` of a step's block of points, without its bias: the two products with
    the rectifier between them, as the step computes them. -/
def column (v0 : Vec Ideal S3x32768 .bf16) (v2 : Vec Ideal S64x3 .bf16) (v5 : Vec Ideal S64x1 .f32)
    (v12 : Vec Ideal S64x60 .bf16) (o : Fin 60) (q : Fin 32768) : EReal :=
  ∑ h : Fin 64, max ((∑ d : Fin 3, v2 (ix2 h d) * v0 (ix2 d q)) + v5 (ix2 h 0)) 0 * v12 (ix2 h o)

/-- Row `r` of a step's block holds the maximum over the 128 points of the step's `r`-th patch, with the bias added
    after it: the four halvings and the last reduction over eight entries together are one maximum over all 128. -/
theorem pay_apply (v0 : Vec Ideal S3x32768 .bf16) (v2 : Vec Ideal S64x3 .bf16) (v5 : Vec Ideal S64x1 .f32)
    (v12 : Vec Ideal S64x60 .bf16) (v31 : Vec Ideal S1x60 .f32) (r : Fin 256) (o : Fin 60) :
    k0_pay1 v0 v2 v5 v12 v31 (ix2 r o)
      = ((Finset.univ : Finset (Fin 128)).sup fun n =>
          column v0 v2 v5 v12 o ⟨r.val * 128 + n.val, by omega⟩) + v31 (ix2 0 o) := by
  -- the column's value as a function of a natural number, −∞ past the block's end
  let g : ℕ → EReal := fun n =>
    if h : r.val * 128 + n < 32768 then column v0 v2 v5 v12 o ⟨r.val * 128 + n, h⟩ else ⊥
  have e : ∀ (n : ℕ) (h : r.val * 128 + n < 32768),
      (∑ k : Fin 64, max ((∑ d : Fin 3, v2 (ix2 k d) * v0 (ix2 d ⟨r.val * 128 + n, h⟩)) + v5 (ix2 k 0)) 0
        * v12 (ix2 k o)) = g n := fun n h =>
    (dif_pos (c := r.val * 128 + n < 32768) (t := fun h => column v0 v2 v5 v12 o ⟨r.val * 128 + n, h⟩) h).symm
  have e' : (fun n : Fin 128 => column v0 v2 v5 v12 o ⟨r.val * 128 + n.val, by omega⟩) = fun n => g n.val :=
    funext fun n => e n.val (by omega)
  rw [e', sup_fin 128 g, ← sup_halves 64, ← sup_halves 32, ← sup_halves 16, ← sup_halves 8,
    ← sup_fin 8]
  pointwise [k0_pay1]
  rw [neg_inf_bf16, fold_max_bot]
  simp only [e]

end Cert.KernelIdeal.Block

end
-- ==== Proof.Array.lean ====
/- The result of the launch as one array. -/
module

public import proofs.«01_k».proof.Proof.Gen.KernelIdeal.Frame
public import proofs.«01_k».proof.Proof.Block
public import Idealize.ShloMosaic.Lib.Pipeline.ValueKit
public import Idealize.ShloMosaic.Lib.Claim
public import Idealize.ShloMosaic.Lib.StableHlo.ReadAt

@[expose] public section

set_option maxRecDepth 16384

noncomputable section

namespace Cert.KernelIdeal.Block

open Idealize.ShloMosaic Idealize.ShloMosaic.TcCoe Idealize.SL.Sem
open Cert.KernelIdeal Cert.KernelIdeal.Gen Cert.Pooling

variable (m : (ℓ : Loc nD τ sig) → Buf (Elt Ideal) ℓ)

/-- The windows' places at a step: the points' columns and the result's rows move with the step, the weights and the
    biases stay. -/
theorem places : ∀ t : Fin cfg0.N, win0_0.index t = ![0, t.val] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The points as the launch finds them: column `q` is point `q mod 128` of patch `q / 128`, the patches counted batch
    by batch. -/
theorem points_array (c : Dev nD) (d : Fin 3) (q : Fin 524288) :
    V m c main_v4 (ix2 d q) = m ((c : Thread nD τ).loc main_arg0)
      (ix4 ⟨q.val / 128 / 512, by omega⟩ ⟨q.val / 128 % 512, by omega⟩ ⟨q.val % 128, by omega⟩ d) := by
  unfold V V0
  after_reads_at

/-- The first layer's weights as the launch finds them: transposed. -/
theorem weights1_array (c : Dev nD) (h : Fin 64) (d : Fin 3) :
    V m c main_v6 (ix2 h d) = m ((c : Thread nD τ).loc main_arg1) (ix2 d h) := by
  unfold V V0
  after_reads_at

/-- The first layer's bias as the launch finds it: a column. -/
theorem bias1_array (c : Dev nD) (h : Fin 64) :
    V m c main_v7 (ix2 h 0) = m ((c : Thread nD τ).loc main_arg2) (ix1 h) := by
  unfold V V0
  after_reads_at

/-- The second layer's weights as the launch finds them: as given. -/
theorem weights2_array (c : Dev nD) (h : Fin 64) (o : Fin 60) :
    V m c main_v8 (ix2 h o) = m ((c : Thread nD τ).loc main_arg3) (ix2 h o) := by
  unfold V V0
  after_reads_at

/-- The second layer's bias as the launch finds it: a row. -/
theorem bias2_array (c : Dev nD) (o : Fin 60) :
    V m c main_v9 (ix2 0 o) = m ((c : Thread nD τ).loc main_arg4) (ix1 o) := by
  unfold V V0
  after_reads_at

/-- Column `128 r + n` of step `t`'s block of points is point `n` of patch `256 t + r`. -/
theorem points_block (c : Dev nD) (t : Fin cfg0.N) (d : Fin 3) (r : Fin 256) (n : Fin 128)
    (b : Fin 8) (s : Fin 512) (hb : b.val = (t.val * 256 + r.val) / 512) (hs : s.val = (t.val * 256 + r.val) % 512)
    (hq : r.val * 128 + n.val < 32768) :
    iblk m c 0 t (ix2 d ⟨r.val * 128 + n.val, hq⟩) = m ((c : Thread nD τ).loc main_arg0) (ix4 b s n d) := by
  obtain ⟨h0, -, -, -, -, -⟩ := places t
  have ht : t.val < 16 := t.isLt
  refine Eq.trans ?_ ((points_array m c d ⟨t.val * 32768 + (r.val * 128 + n.val), by omega⟩).trans ?_)
  · blk_ext [iblk, h0]
  · refine congrArg (m ((c : Thread nD τ).loc main_arg0)) ?_
    congr 1 <;> apply Fin.ext <;> simp only [] <;> omega

/-- Every step is given the whole of the first layer's weights. -/
theorem weights1_block (c : Dev nD) (t : Fin cfg0.N) (h : Fin 64) (d : Fin 3) :
    iblk m c 1 t (ix2 h d) = m ((c : Thread nD τ).loc main_arg1) (ix2 d h) := by
  obtain ⟨-, h1, -, -, -, -⟩ := places t
  refine Eq.trans ?_ (weights1_array m c h d)
  blk_ext [iblk, h1]

/-- Every step is given the whole of the first layer's bias. -/
theorem bias1_block (c : Dev nD) (t : Fin cfg0.N) (h : Fin 64) :
    iblk m c 2 t (ix2 h 0) = m ((c : Thread nD τ).loc main_arg2) (ix1 h) := by
  obtain ⟨-, -, h2, -, -, -⟩ := places t
  refine Eq.trans ?_ (bias1_array m c h)
  blk_ext [iblk, h2]

/-- Every step is given the whole of the second layer's weights. -/
theorem weights2_block (c : Dev nD) (t : Fin cfg0.N) (h : Fin 64) (o : Fin 60) :
    iblk m c 3 t (ix2 h o) = m ((c : Thread nD τ).loc main_arg3) (ix2 h o) := by
  obtain ⟨-, -, -, h3, -, -⟩ := places t
  refine Eq.trans ?_ (weights2_array m c h o)
  blk_ext [iblk, h3]

/-- Every step is given the whole of the second layer's bias. -/
theorem bias2_block (c : Dev nD) (t : Fin cfg0.N) (o : Fin 60) :
    iblk m c 4 t (ix2 0 o) = m ((c : Thread nD τ).loc main_arg4) (ix1 o) := by
  obtain ⟨-, -, -, -, h4, -⟩ := places t
  refine Eq.trans ?_ (bias2_array m c o)
  blk_ext [iblk, h4]

/-- The pooled features of a device's arguments. -/
def features (c : Dev nD) (b : Fin 8) (s : Fin 512) (o : Fin 60) : EReal :=
  pooled (m ((c : Thread nD τ).loc main_arg0)) (m ((c : Thread nD τ).loc main_arg1))
    (m ((c : Thread nD τ).loc main_arg2)) (m ((c : Thread nD τ).loc main_arg3))
    (m ((c : Thread nD τ).loc main_arg4)) b s o

/-- The pooled features depend on the patch and the unit through their numbers. -/
theorem features_congr (c : Dev nD) {b b' : Fin 8} {s s' : Fin 512} {o o' : Fin 60} (hb : b.val = b'.val)
    (hs : s.val = s'.val) (ho : o.val = o'.val) : features m c b s o = features m c b' s' o' := by
  rw [Fin.ext hb, Fin.ext hs, Fin.ext ho]

/-- Row `r` of the block step `t` stores: the pooled features of patch `256 t + r`. -/
theorem step_block (c : Dev nD) (t : Fin cfg0.N) (r : Fin 256) (o : Fin 60)
    (b : Fin 8) (s : Fin 512) (hb : b.val = (t.val * 256 + r.val) / 512) (hs : s.val = (t.val * 256 + r.val) % 512) :
    k0_pay1 (iblk m c 0 t) (iblk m c 1 t) (iblk m c 2 t) (iblk m c 3 t) (iblk m c 4 t) (ix2 r o)
      = features m c b s o := by
  rw [pay_apply, ← sup_add_const]
  unfold features pooled
  refine Finset.sup_congr rfl fun n _ => ?_
  rw [bias2_block]
  refine congrArg (· + _) (Finset.sum_congr rfl fun h _ => ?_)
  rw [weights2_block, bias1_block]
  refine congrArg (fun e => max (e + _) 0 * _) (Finset.sum_congr rfl fun d _ => ?_)
  rw [weights1_block, points_block m c t d r n b s hb hs]
  exact mul_comm _ _

/-- After the launch the result array holds, in row `p`, the pooled features of patch `p`. -/
theorem array (c : Dev nD) : (dats m 0 c).arrAt 5 cfg0.N = fun i : S4096x60.Idx =>
    features m c ⟨(i 0).val / 512, by have := (i 0).isLt; show _ < 8; simp at this; omega⟩
      ⟨(i 0).val % 512, by omega⟩ (i 1) := by
  refine (dats m 0 c).arrAt_eq_of_covers 5 _ (by decide +kernel) fun t hf y => ?_
  blk_simp
  rw [after0_5]
  frame_out
  obtain ⟨-, -, -, -, -, h5⟩ := places t
  have ht : t.val < 16 := t.isLt
  idx_vars y
  refine (step_block m c t y0 y1 ⟨(t.val * 256 + y0.val) / 512, by omega⟩
    ⟨(t.val * 256 + y0.val) % 512, by omega⟩ rfl rfl).trans ?_
  refine features_congr m c ?_ ?_ ?_
  · simp only [h5]; rfl
  · simp only [h5]; rfl
  · blk_simp [h5]

end Cert.KernelIdeal.Block

end
-- ==== Proof.KernelRun.lean ====
/- The kernel's result: the launch's rows regrouped by batch. -/
module

public import proofs.«01_k».proof.Proof.Array

@[expose] public section

set_option maxRecDepth 16384

noncomputable section

namespace Cert.KernelIdeal.Block

open Idealize.ShloMosaic Idealize.ShloMosaic.TcCoe Idealize.SL.Sem
open Cert.KernelIdeal Cert.KernelIdeal.Gen Cert.Pooling

variable (m : (ℓ : Loc nD τ sig) → Buf (Elt Ideal) ℓ)

/-- What the launch leaves, regrouped by batch: entry `(b, s, o)` is pooled feature `o` of patch `(b, s)`. -/
theorem regroup (c : Dev nD) :
    Pipeline.afterTail₀ cfgs (dats m) 0 (V0 m) [hostOps1] c main_v11
      = fun i : S8x512x60.Idx => features m c (i 0) (i 1) (i 2) := by
  have h : Pipeline.withArrays (cfgs 0).spec c (V0 m c) (fun w => (dats m 0 c).arrAt w (cfgs 0).N)
      (Proc.devRef .tc main_v10) = (dats m 0 c).arrAt 5 cfg0.N :=
    Pipeline.withArrays_arr spec0 (by decide) c _ _ 5
  funext i
  idx_vars i
  unfold Pipeline.afterTail₀
  after_reads_at
  refine (congrFun (h.trans (array m c)) (ix2 ⟨i0.val * 512 + i1.val, by omega⟩ i2)).trans ?_
  refine features_congr m c ?_ ?_ rfl
  · show (i0.val * 512 + i1.val) / 512 = i0.val
    omega
  · show (i0.val * 512 + i1.val) % 512 = i1.val
    omega

/-- The kernel ends with the pooled features in its result and its arguments as given. -/
theorem run (ρ : Dev nD → PrngReg) :
    θ_run defs (onTc (τ := τ) (main (F := Ideal))) ⟨m, fun _ => 0, ρ⟩ fun r => ∀ c : Dev nD,
      r.2.mem ((c.tc : Thread nD τ).loc main_v11) = (fun i : S8x512x60.Idx => features m c (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h.1 c).2 main_v11 (Pipeline.mem_restRefs_of main_v11 (by decide) (by decide))).trans (regroup m c), h.2 c⟩)
    (θ_run_and (run_main m ρ) (unchanged m ρ))

end Cert.KernelIdeal.Block

end
-- ==== Proof.Reference.lean ====
/- The reference's result, read at an index. -/
module

public import proofs.«01_k».proof.Proof.Gen.ReferenceIdeal.Read
public import proofs.«01_k».proof.Proof.Pooling

@[expose] public section

set_option maxRecDepth 16384

noncomputable section

namespace Cert.ReferenceIdeal.Pool

open Idealize.ShloMosaic Cert.ReferenceIdeal Cert.ReferenceIdeal.Read Cert.Pooling

variable (x0 : (⟨S8x512x128x3, .f32⟩ : BufTy).Contents (Elt Ideal)) (x1 : (⟨S3x64, .f32⟩ : BufTy).Contents (Elt Ideal))
  (x2 : (⟨S64, .f32⟩ : BufTy).Contents (Elt Ideal)) (x3 : (⟨S64x60, .f32⟩ : BufTy).Contents (Elt Ideal))
  (x4 : (⟨S60, .f32⟩ : BufTy).Contents (Elt Ideal))

/-- Before the pooling: unit `o` of point `n` of the patch numbered `p`, with its bias. -/
theorem encoded_apply (p : Fin 4096) (n : Fin 128) (o : Fin 60) (b : Fin 8) (s : Fin 512) (hp : p.val = b.val * 512 + s.val) :
    val_main_v10 x0 x1 x2 x3 x4 (ix3 p n o) = score x0 x1 x2 x3 b s n o + x4 (ix1 o) := by
  pointwise [val_main_v10, val_main_v9, val_main_v8, val_main_v7, val_main_v6, val_main_v5,
    val_main_v4, val_main_v3, val_main_v2, val_main_v1, val_main_v0, val_main_call0_v0, val_main_call0_cst]
  unfold score hiddenUnit
  refine congrArg (· + _) (Finset.sum_congr rfl fun h _ => ?_)
  refine congrArg (fun e => max (e + _) 0 * _) (Finset.sum_congr rfl fun d _ => ?_)
  refine congrArg (· * _) (congrArg x0 ?_)
  have hb : (p.val * 128 + n.val) / 65536 = b.val := by omega
  have hs : (p.val * 128 + n.val) / 128 % 512 = s.val := by omega
  exact congrArg₂ (fun b' s' => ix4 b' s' n d) (Fin.ext hb) (Fin.ext hs)

/-- The pooling: the maximum over a patch's points, from −∞. -/
theorem pool_apply (p : Fin 4096) (o : Fin 60) :
    val_main_v11 x0 x1 x2 x3 x4 (ix2 p o)
      = (Finset.univ : Finset (Fin 128)).fold max (Ideal.ofBits .f32 0xFF800000#32) fun n => val_main_v10 x0 x1 x2 x3 x4 (ix3 p n o) := by
  pointwise [val_main_v11, val_main_cst]

/-- The reference's composed term at `(b, s, o)` is pooled feature `o` of patch `(b, s)`. -/
theorem term_apply (b : Fin 8) (s : Fin 512) (o : Fin 60) :
    val_main_v12 x0 x1 x2 x3 x4 (ix3 b s o) = pooled x0 x1 x2 x3 x4 b s o := by
  have e : val_main_v12 x0 x1 x2 x3 x4 (ix3 b s o)
      = val_main_v11 x0 x1 x2 x3 x4 (ix2 ⟨b.val * 512 + s.val, by omega⟩ o) := by pointwise [val_main_v12]
  rw [e, pool_apply, neg_inf_f32, fold_max_bot]
  exact Finset.sup_congr rfl fun n _ => encoded_apply x0 x1 x2 x3 x4 _ n o b s rfl

end Cert.ReferenceIdeal.Pool

end
-- ==== Proof.lean ====
/- The certificate's claims joined: the three frames, the kernel's reading at exact arithmetic, and the equality of the
   kernel's result with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.KernelRun
public import proofs.«01_k».proof.Proof.Reference
public import Idealize.ShloMosaic.Lib.Quiescent

@[expose] public section

noncomputable section

namespace Cert.Proof

open Idealize.ShloMosaic Idealize.SL.Sem

/-- The reference runs to the end from any memory, leaves its arguments as given and every counter at zero: it
    declares no semaphore. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- From memories that agree on the five arguments the kernel and the reference end with the same result, and each
    leaves its arguments as given. The common value is `Cert.Pooling.pooled` of the arguments. -/
theorem value : Cert.algebraic_KernelIdeal_ReferenceIdeal (hKernelIdeal := Cert.KernelIdeal.Gen.facts)
    (hReferenceIdeal := Cert.ReferenceIdeal.Gen.facts) := by
  intro m ρ m' ρ' _ hagree
  refine ⟨fun c => fun i : Cert.KernelIdeal.S8x512x60.Idx => Cert.KernelIdeal.Block.features m c (i 0) (i 1) (i 2),
    Cert.KernelIdeal.Block.run m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4⟩ := hagree c
  refine (Cert.ReferenceIdeal.Read.val_main_v12_eq _ _ _ _ _).trans ?_
  rw [e0, e1, e2, e3, e4]
  funext i
  idx_vars i
  exact Cert.ReferenceIdeal.Pool.term_apply _ _ _ _ _ i0 i1 i2

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, value⟩

end Cert.Proof

end
